-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_setup_like [hPre_setup_like : Cert.Pre_setup_like.Facts] (m : (ℓ : Loc Cert.KernelIdeal.nD Cert.KernelIdeal.τ Cert.KernelIdeal.sig) → Buf (Elt Ideal) ℓ) : Prop :=
  ∀ c : Dev Cert.KernelIdeal.nD,
    (Cert.Pre_setup_like.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_setup_like [hPre_setup_like : Cert.Pre_setup_like.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_setup_like.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_setup_like [hKernelIdeal : Cert.KernelIdeal.Facts] [hPre_setup_like : Cert.Pre_setup_like.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_setup_like m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_setup_like [hReferenceIdeal : Cert.ReferenceIdeal.Facts] [hPre_setup_like : Cert.Pre_setup_like.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_setup_like m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal_pre_setup_like [hKernelIdeal : Cert.KernelIdeal.Facts] [hReferenceIdeal : Cert.ReferenceIdeal.Facts] [hPre_setup_like : Cert.Pre_setup_like.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_setup_like m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v26) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_setup_like : Cert.Pre_setup_like.Facts),
    quiescent_Kernel (hKernel := hKernel)
    ∧ quiescent_KernelIdeal (hKernelIdeal := hKernelIdeal)
    ∧ quiescent_KernelIdeal_pre_setup_like (hKernelIdeal := hKernelIdeal) (hPre_setup_like := hPre_setup_like)
    ∧ quiescent_ReferenceIdeal (hReferenceIdeal := hReferenceIdeal)
    ∧ quiescent_ReferenceIdeal_pre_setup_like (hReferenceIdeal := hReferenceIdeal) (hPre_setup_like := hPre_setup_like)
    ∧ preserves_Kernel_KernelIdeal
    ∧ algebraic_KernelIdeal_ReferenceIdeal_pre_setup_like (hKernelIdeal := hKernelIdeal) (hReferenceIdeal := hReferenceIdeal) (hPre_setup_like := hPre_setup_like)
-- ==== Pre_setup_like.lean ====
abbrev S16384x512 : Shape := ⟨2, ![16384, 512]⟩
abbrev S128x5 : Shape := ⟨2, ![128, 5]⟩
abbrev S128 : Shape := ⟨1, ![128]⟩
abbrev S128x4 : Shape := ⟨2, ![128, 4]⟩
abbrev S5x4 : Shape := ⟨2, ![5, 4]⟩
abbrev S_ : Shape := ⟨0, ![]⟩

class Facts : Prop where
  bcast_S_S16384x512 : S_.BroadcastsInDim S16384x512 (![] : Fin 0 → Fin S16384x512.rank)
  reducesTo_S16384x512_S_d0_1 : S16384x512.ReducesTo [0, 1] S_
  h_S_ : 0 < S_.numel
  slices_S128x5_S128x4_0_1 : S128x5.Slices ![0, 1] S128x4
  bcast_S_S128x4 : S_.BroadcastsInDim S128x4 (![] : Fin 0 → Fin S128x4.rank)
  reducesTo_S128x4_S_d0_1 : S128x4.ReducesTo [0, 1] S_
  bcast_S_S5x4 : S_.BroadcastsInDim S5x4 (![] : Fin 0 → Fin S5x4.rank)
  natLt_1_32 : 1 < 32
  reducesTo_S5x4_S_d0_1 : S5x4.ReducesTo [0, 1] S_

variable [Facts]

def fn_part1 {F : FTy → Type} [FloatOps F] (main_arg4 : IVec S5x4 32) (main_v0 : IVec S5x4 32) (main_v1 : IVec S5x4 32) (main_v11 : IVec S_ 1) (main_v16 : IVec S128x4 1) (main_c_4 : IVec S_ 1) : IVec S_ 1 :=
  let main_v17 : IVec S_ 1 := (fun x v => Host.reduce IntOp.andi x v reducesTo_S128x4_S_d0_1 h_S_) main_v16 main_c_4
  let main_v18 : IVec S_ 1 := andi main_v11 main_v17
  let main_c_5 : IVec S_ 32 := constantI S_ 32 1#32
  let main_v19 : IVec S5x4 32 := broadcastInDim S5x4 ![] bcast_S_S5x4 main_c_5
  let main_v20 : IVec S5x4 32 := addi main_v1 main_v19
  let main_v21 : IVec S5x4 1 := cmpi .eq main_v0 main_v20
  let main_v22 : IVec S5x4 32 := (extui 32 · natLt_1_32) main_v21
  let main_v23 : IVec S5x4 1 := cmpi .eq main_arg4 main_v22
  let main_c_6 : IVec S_ 1 := constantI S_ 1 1#1
  let main_v24 : IVec S_ 1 := (fun x v => Host.reduce IntOp.andi x v reducesTo_S5x4_S_d0_1 h_S_) main_v23 main_c_6
  let main_v25 : IVec S_ 1 := andi main_v18 main_v24
  main_v25

def fn {F : FTy → Type} [FloatOps F] (main_arg0 : FVec F S16384x512 .f32) (main_arg1 : FVec F S128x5 .f32) (main_arg2 : FVec F S128 .f32) (main_arg3 : IVec S128x4 32) (main_arg4 : IVec S5x4 32) : IVec S_ 1 :=
  let main_v0 : IVec S5x4 32 := iotaInDim S5x4 32 0
  let main_v1 : IVec S5x4 32 := iotaInDim S5x4 32 1
  let main_v2 : FVec F S16384x512 .f32 := Host.absf main_arg0
  let main_cst : FVec F S_ .f32 := constant S_ .f32 0x7F800000#32
  let main_v3 : FVec F S16384x512 .f32 := broadcastInDim S16384x512 ![] bcast_S_S16384x512 main_cst
  let main_v4 : IVec S16384x512 1 := cmpf .olt main_v2 main_v3
  let main_c : IVec S_ 1 := constantI S_ 1 1#1
  let main_v5 : IVec S_ 1 := (fun x v => Host.reduce IntOp.andi x v reducesTo_S16384x512_S_d0_1 h_S_) main_v4 main_c
  let main_v6 : FVec F S128x4 .f32 := (extractStridedSlice S128x4 ![0, 1] · slices_S128x5_S128x4_0_1) main_arg1
  let main_v7 : FVec F S128x4 .f32 := Host.absf main_v6
  let main_cst_0 : FVec F S_ .f32 := constant S_ .f32 0x7F800000#32
  let main_v8 : FVec F S128x4 .f32 := broadcastInDim S128x4 ![] bcast_S_S128x4 main_cst_0
  let main_v9 : IVec S128x4 1 := cmpf .olt main_v7 main_v8
  let main_c_1 : IVec S_ 1 := constantI S_ 1 1#1
  let main_v10 : IVec S_ 1 := (fun x v => Host.reduce IntOp.andi x v reducesTo_S128x4_S_d0_1 h_S_) main_v9 main_c_1
  let main_v11 : IVec S_ 1 := andi main_v5 main_v10
  let main_c_2 : IVec S_ 32 := constantI S_ 32 0#32
  let main_v12 : IVec S128x4 32 := broadcastInDim S128x4 ![] bcast_S_S128x4 main_c_2
  let main_v13 : IVec S128x4 1 := cmpi .sge main_arg3 main_v12
  let main_c_3 : IVec S_ 32 := constantI S_ 32 512#32
  let main_v14 : IVec S128x4 32 := broadcastInDim S128x4 ![] bcast_S_S128x4 main_c_3
  let main_v15 : IVec S128x4 1 := cmpi .slt main_arg3 main_v14
  let main_v16 : IVec S128x4 1 := andi main_v13 main_v15
  let main_c_4 : IVec S_ 1 := constantI S_ 1 1#1
  fn_part1 (F := F) main_arg4 main_v0 main_v1 main_v11 main_v16 main_c_4
-- ==== Kernel.lean ====
abbrev S16384x512 : Shape := ⟨2, ![16384, 512]⟩
abbrev S128x5 : Shape := ⟨2, ![128, 5]⟩
abbrev S128 : Shape := ⟨1, ![128]⟩
abbrev S128x4 : Shape := ⟨2, ![128, 4]⟩
abbrev S5x4 : Shape := ⟨2, ![5, 4]⟩
abbrev S16384x128 : Shape := ⟨2, ![16384, 128]⟩
abbrev S2048x512 : Shape := ⟨2, ![2048, 512]⟩
abbrev S2048x128 : Shape := ⟨2, ![2048, 128]⟩
abbrev S1x1x512 : Shape := ⟨3, ![1, 1, 512]⟩
abbrev S128x4x1 : Shape := ⟨3, ![128, 4, 1]⟩
abbrev S128x4x512 : Shape := ⟨3, ![128, 4, 512]⟩
abbrev S128x512 : Shape := ⟨2, ![128, 512]⟩
abbrev S128x1 : Shape := ⟨2, ![128, 1]⟩
abbrev S1x128 : Shape := ⟨2, ![1, 128]⟩

abbrev nBuf : Space → Nat
  | .hbm => 6
  | .vmem => 7
  | .smem => 0
  | _ => 0

abbrev bufTy : (tb : Table) → Fin (tcTables nBuf tb) → BufTy
  | .hbm, ⟨0, _⟩ => ⟨S16384x512, .f32⟩
  | .hbm, ⟨1, _⟩ => ⟨S128x5, .f32⟩
  | .hbm, ⟨2, _⟩ => ⟨S128, .f32⟩
  | .hbm, ⟨3, _⟩ => ⟨S128x4, .i32⟩
  | .hbm, ⟨4, _⟩ => ⟨S5x4, .i32⟩
  | .hbm, ⟨5, _⟩ => ⟨S16384x128, .f32⟩
  | .local _ .vmem, ⟨0, _⟩ => ⟨S2048x512, .f32⟩
  | .local _ .vmem, ⟨1, _⟩ => ⟨S2048x512, .f32⟩
  | .local _ .vmem, ⟨2, _⟩ => ⟨S128x5, .f32⟩
  | .local _ .vmem, ⟨3, _⟩ => ⟨S128, .f32⟩
  | .local _ .vmem, ⟨4, _⟩ => ⟨S128x4, .i32⟩
  | .local _ .vmem, ⟨5, _⟩ => ⟨S2048x128, .f32⟩
  | .local _ .vmem, ⟨6, _⟩ => ⟨S2048x128, .f32⟩
  | _, _ => ⟨S16384x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2048x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x5 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x4 .i32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S2048x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== ReferenceIdeal.lean ====
abbrev S16384x512 : Shape := ⟨2, ![16384, 512]⟩
abbrev S128x5 : Shape := ⟨2, ![128, 5]⟩
abbrev S128 : Shape := ⟨1, ![128]⟩
abbrev S128x4 : Shape := ⟨2, ![128, 4]⟩
abbrev S5x4 : Shape := ⟨2, ![5, 4]⟩
abbrev S512 : Shape := ⟨1, ![512]⟩
abbrev S_ : Shape := ⟨0, ![]⟩
abbrev S512x1 : Shape := ⟨2, ![512, 1]⟩
abbrev S1 : Shape := ⟨1, ![1]⟩
abbrev S1x1 : Shape := ⟨2, ![1, 1]⟩
abbrev S16384x128x4 : Shape := ⟨3, ![16384, 128, 4]⟩
abbrev S16384x128x1x4 : Shape := ⟨4, ![16384, 128, 1, 4]⟩
abbrev S1x1x5x4 : Shape := ⟨4, ![1, 1, 5, 4]⟩
abbrev S16384x128x5x4 : Shape := ⟨4, ![16384, 128, 5, 4]⟩
abbrev S16384x128x5x1 : Shape := ⟨4, ![16384, 128, 5, 1]⟩
abbrev S16384x128x5 : Shape := ⟨3, ![16384, 128, 5]⟩
abbrev S1x128x5 : Shape := ⟨3, ![1, 128, 5]⟩
abbrev S16384x128 : Shape := ⟨2, ![16384, 128]⟩
abbrev S1x128 : Shape := ⟨2, ![1, 128]⟩

abbrev nBuf : Space → Nat
  | .hbm => 55
  | .vmem => 0
  | .smem => 0
  | _ => 0

abbrev bufTy : (tb : Table) → Fin (tcTables nBuf tb) → BufTy
  | .hbm, ⟨0, _⟩ => ⟨S16384x512, .f32⟩
  | .hbm, ⟨1, _⟩ => ⟨S128x5, .f32⟩
  | .hbm, ⟨2, _⟩ => ⟨S128, .f32⟩
  | .hbm, ⟨3, _⟩ => ⟨S128x4, .i32⟩
  | .hbm, ⟨4, _⟩ => ⟨S5x4, .i32⟩
  | .hbm, ⟨5, _⟩ => ⟨S512, .i32⟩
  | .hbm, ⟨6, _⟩ => ⟨S_, .i32⟩
  | .hbm, ⟨7, _⟩ => ⟨S512, .i32⟩
  | .hbm, ⟨8, _⟩ => ⟨S512, .i1⟩
  | .hbm, ⟨9, _⟩ => ⟨S_, .i32⟩
  | .hbm, ⟨10, _⟩ => ⟨S512, .i32⟩
  | .hbm, ⟨11, _⟩ => ⟨S512, .i32⟩
  | .hbm, ⟨12, _⟩ => ⟨S512, .i32⟩
  | .hbm, ⟨13, _⟩ => ⟨S512x1, .i32⟩
  | .hbm, ⟨14, _⟩ => ⟨S1, .i32⟩
  | .hbm, ⟨15, _⟩ => ⟨S_, .i32⟩
  | .hbm, ⟨16, _⟩ => ⟨S512x1, .i32⟩
  | .hbm, ⟨17, _⟩ => ⟨S512x1, .i1⟩
  | .hbm, ⟨18, _⟩ => ⟨S1x1, .i32⟩
  | .hbm, ⟨19, _⟩ => ⟨S512x1, .i32⟩
  | .hbm, ⟨20, _⟩ => ⟨S512x1, .i1⟩
  | .hbm, ⟨21, _⟩ => ⟨S512x1, .i1⟩
  | .hbm, ⟨22, _⟩ => ⟨S_, .i1⟩
  | .hbm, ⟨23, _⟩ => ⟨S512, .i1⟩
  | .hbm, ⟨24, _⟩ => ⟨S16384x512, .f32⟩
  | .hbm, ⟨25, _⟩ => ⟨S16384x512, .i1⟩
  | .hbm, ⟨26, _⟩ => ⟨S_, .f32⟩
  | .hbm, ⟨27, _⟩ => ⟨S16384x512, .f32⟩
  | .hbm, ⟨28, _⟩ => ⟨S16384x512, .f32⟩
  | .hbm, ⟨29, _⟩ => ⟨S16384x128x4, .f32⟩
  | .hbm, ⟨30, _⟩ => ⟨S16384x128x1x4, .f32⟩
  | .hbm, ⟨31, _⟩ => ⟨S1x1x5x4, .i32⟩
  | .hbm, ⟨32, _⟩ => ⟨S1x1x5x4, .f32⟩
  | .hbm, ⟨33, _⟩ => ⟨S16384x128x5x4, .f32⟩
  | .hbm, ⟨34, _⟩ => ⟨S16384x128x5x4, .f32⟩
  | .hbm, ⟨35, _⟩ => ⟨S16384x128x5x4, .f32⟩
  | .hbm, ⟨36, _⟩ => ⟨S16384x128x5x1, .f32⟩
  | .hbm, ⟨37, _⟩ => ⟨S16384x128x5, .f32⟩
  | .hbm, ⟨38, _⟩ => ⟨S16384x128x5x1, .f32⟩
  | .hbm, ⟨39, _⟩ => ⟨S16384x128x5, .f32⟩
  | .hbm, ⟨40, _⟩ => ⟨S16384x128x5, .f32⟩
  | .hbm, ⟨41, _⟩ => ⟨S16384x128x5x1, .f32⟩
  | .hbm, ⟨42, _⟩ => ⟨S16384x128x5, .f32⟩
  | .hbm, ⟨43, _⟩ => ⟨S16384x128x5, .f32⟩
  | .hbm, ⟨44, _⟩ => ⟨S16384x128x5x1, .f32⟩
  | .hbm, ⟨45, _⟩ => ⟨S16384x128x5, .f32⟩
  | .hbm, ⟨46, _⟩ => ⟨S16384x128x5, .f32⟩
  | .hbm, ⟨47, _⟩ => ⟨S1x128x5, .f32⟩
  | .hbm, ⟨48, _⟩ => ⟨S16384x128x5, .f32⟩
  | .hbm, ⟨49, _⟩ => ⟨S16384x128x5, .f32⟩
  | .hbm, ⟨50, _⟩ => ⟨S_, .f32⟩
  | .hbm, ⟨51, _⟩ => ⟨S16384x128, .f32⟩
  | .hbm, ⟨52, _⟩ => ⟨S1x128, .f32⟩
  | .hbm, ⟨53, _⟩ => ⟨S16384x128, .f32⟩
  | .hbm, ⟨54, _⟩ => ⟨S16384x128, .f32⟩
  | _, _ => ⟨S16384x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_call0_c : Ref sig .tc := ⟨.hbm, 6, rfl⟩
abbrev main_call0_v0 : Ref sig .tc := ⟨.hbm, 7, rfl⟩
abbrev main_call0_v1 : Ref sig .tc := ⟨.hbm, 8, rfl⟩
abbrev main_call0_c_0 : Ref sig .tc := ⟨.hbm, 9, rfl⟩
abbrev main_call0_v2 : Ref sig .tc := ⟨.hbm, 10, rfl⟩
abbrev main_call0_v3 : Ref sig .tc := ⟨.hbm, 11, rfl⟩
abbrev main_call0_v4 : Ref sig .tc := ⟨.hbm, 12, rfl⟩
abbrev main_call0_v5 : Ref sig .tc := ⟨.hbm, 13, rfl⟩
abbrev main_call0_c_1 : Ref sig .tc := ⟨.hbm, 14, rfl⟩
abbrev main_call0_c_2 : Ref sig .tc := ⟨.hbm, 15, rfl⟩
abbrev main_call0_v6 : Ref sig .tc := ⟨.hbm, 16, rfl⟩
abbrev main_call0_v7 : Ref sig .tc := ⟨.hbm, 17, rfl⟩
abbrev main_call0_v8 : Ref sig .tc := ⟨.hbm, 18, rfl⟩
abbrev main_call0_v9 : Ref sig .tc := ⟨.hbm, 19, rfl⟩
abbrev main_call0_v10 : Ref sig .tc := ⟨.hbm, 20, rfl⟩
abbrev main_call0_v11 : Ref sig .tc := ⟨.hbm, 21, rfl⟩
abbrev main_call0_c_3 : Ref sig .tc := ⟨.hbm, 22, rfl⟩
abbrev main_call0_v12 : Ref sig .tc := ⟨.hbm, 23, rfl⟩
abbrev main_call0_v13 : Ref sig .tc := ⟨.hbm, 24, rfl⟩
abbrev main_call0_v14 : Ref sig .tc := ⟨.hbm, 25, rfl⟩
abbrev main_call0_cst : Ref sig .tc := ⟨.hbm, 26, rfl⟩
abbrev main_call0_v15 : Ref sig .tc := ⟨.hbm, 27, rfl⟩
abbrev main_v1 : Ref sig .tc := ⟨.hbm, 28, rfl⟩
abbrev main_v2 : Ref sig .tc := ⟨.hbm, 29, rfl⟩
abbrev main_v3 : Ref sig .tc := ⟨.hbm, 30, rfl⟩
abbrev main_v4 : Ref sig .tc := ⟨.hbm, 31, rfl⟩
abbrev main_v5 : Ref sig .tc := ⟨.hbm, 32, rfl⟩
abbrev main_v6 : Ref sig .tc := ⟨.hbm, 33, rfl⟩
abbrev main_v7 : Ref sig .tc := ⟨.hbm, 34, rfl⟩
abbrev main_v8 : Ref sig .tc := ⟨.hbm, 35, rfl⟩
abbrev main_v9 : Ref sig .tc := ⟨.hbm, 36, rfl⟩
abbrev main_v10 : Ref sig .tc := ⟨.hbm, 37, rfl⟩
abbrev main_v11 : Ref sig .tc := ⟨.hbm, 38, rfl⟩
abbrev main_v12 : Ref sig .tc := ⟨.hbm, 39, rfl⟩
abbrev main_v13 : Ref sig .tc := ⟨.hbm, 40, rfl⟩
abbrev main_v14 : Ref sig .tc := ⟨.hbm, 41, rfl⟩
abbrev main_v15 : Ref sig .tc := ⟨.hbm, 42, rfl⟩
abbrev main_v16 : Ref sig .tc := ⟨.hbm, 43, rfl⟩
abbrev main_v17 : Ref sig .tc := ⟨.hbm, 44, rfl⟩
abbrev main_v18 : Ref sig .tc := ⟨.hbm, 45, rfl⟩
abbrev main_v19 : Ref sig .tc := ⟨.hbm, 46, rfl⟩
abbrev main_v20 : Ref sig .tc := ⟨.hbm, 47, rfl⟩
abbrev main_v21 : Ref sig .tc := ⟨.hbm, 48, rfl⟩
abbrev main_v22 : Ref sig .tc := ⟨.hbm, 49, rfl⟩
abbrev main_cst : Ref sig .tc := ⟨.hbm, 50, rfl⟩
abbrev main_v23 : Ref sig .tc := ⟨.hbm, 51, rfl⟩
abbrev main_v24 : Ref sig .tc := ⟨.hbm, 52, rfl⟩
abbrev main_v25 : Ref sig .tc := ⟨.hbm, 53, rfl⟩
abbrev main_v26 : Ref sig .tc := ⟨.hbm, 54, rfl⟩

abbrev nD : Nat := 1
abbrev τ : Topo := Topo.v7x

variable {F : FTy → Type} [FloatOps F]
-- ==== Proof.Algebra.lean ====
/- The arithmetic of one output element, over the extended reals: no program is mentioned here. -/
module

public import Idealize.ShloMosaic.PureOps.Ideal.Laws

@[expose] public section

noncomputable section

namespace Cert.Layer

/-- A finite family of extended reals none of which is infinite is a family of real numbers. -/
theorem exists_real {ι : Type} (f : ι → EReal) (h : ∀ i, f i ≠ ⊤ ∧ f i ≠ ⊥) : ∃ g : ι → ℝ, ∀ i, f i = (g i : EReal) :=
  ⟨fun i => (f i).toReal, fun i => (EReal.coe_toReal (h i).1 (h i).2).symm⟩

/-- The sum of finitely many real numbers is the same taken among the reals or among the extended reals. -/
theorem coe_sum {ι : Type} (s : Finset ι) (g : ι → ℝ) : ∑ i ∈ s, (g i : EReal) = ((∑ i ∈ s, g i : ℝ) : EReal) := by
  classical
  induction s using Finset.induction_on with
  | empty => simp
  | insert a s ha ih => rw [Finset.sum_insert ha, Finset.sum_insert ha, ih, EReal.coe_add]

/-- A row scattered into a dense vector and then contracted with `x` is the sum over the row's entries: for real `x` and
    `w`, `∑ k, x k * ∑ j, [at j = k] * w j = ∑ j, x (at j) * w j`, also where two entries go to one place. -/
theorem dense_sum {n r : ℕ} (x : Fin n → EReal) (w : Fin r → EReal) (place : Fin r → Fin n)
    (hx : ∀ k, x k ≠ ⊤ ∧ x k ≠ ⊥) (hw : ∀ j, w j ≠ ⊤ ∧ w j ≠ ⊥) :
    ∑ k, x k * ∑ j, (if place j = k then (1 : EReal) else 0) * w j = ∑ j, x (place j) * w j := by
  obtain ⟨x', hx'⟩ := exists_real x hx
  obtain ⟨w', hw'⟩ := exists_real w hw
  have hone : ∀ (j : Fin r) (k : Fin n), (if place j = k then (1 : EReal) else 0) = ((if place j = k then (1 : ℝ) else 0 : ℝ) : EReal) := by
    intro j k; split <;> simp
  simp only [hx', hw', hone, ← EReal.coe_mul, coe_sum, EReal.coe_eq_coe_iff]
  simp only [Finset.mul_sum]
  rw [Finset.sum_comm]
  refine Finset.sum_congr rfl fun j _ => ?_
  rw [Finset.sum_eq_single (place j)]
  · simp
  · intro k _ hk; rw [if_neg (Ne.symm hk)]; simp
  · intro h; exact absurd (Finset.mem_univ _) h

end Cert.Layer

end
-- ==== Proof.Block.lean ====
/- What the kernel's result array holds after the run, element by element. -/
module

public import proofs.«01_k».proof.Proof.Gen.KernelIdeal.Frame
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.KernelIdeal.Layer

open Cert.KernelIdeal Cert.KernelIdeal.Gen

/-- The dense weight from feature `k` to output `o`: the weights of `o`'s entries whose index word is `k`, added. -/
def dense (W : FVec Ideal S128x5 .f32) (I : IVec S128x4 32) (o : Fin 128) (k : Fin 512) : EReal :=
  ∑ j : Fin 4, FloatOps.sitofp (F := Ideal) .f32 (BitVec.setWidth 32 (IntOp.cmpi .eq (I (ix2 o j)) (BitVec.ofNat 32 k.val)))
    * W (ix2 o ⟨1 + j.val, by omega⟩)

/-- The array the kernel computes: `X` times the dense weights, plus the constant term's weight and the bias. -/
def layer (X : FVec Ideal S16384x512 .f32) (W : FVec Ideal S128x5 .f32) (B : FVec Ideal S128 .f32) (I : IVec S128x4 32) :
    FVec Ideal S16384x128 .f32 :=
  fun i => (∑ k : Fin 512, X (ix2 (i 0) k) * dense W I (i 1) k) + (W (ix2 (i 1) 0) + B (ix1 (i 1)))

/-- The body's stored value at row `p` and output `o` of its block. -/
theorem pay_apply (w : Vec Ideal S128x5 .f32) (a : Vec Ideal S128x4 .i32) (x : Vec Ideal S2048x512 .f32) (b : Vec Ideal S128 .f32)
    (p : Fin 2048) (o : Fin 128) :
    k0_pay1 w a x b (ix2 p o) = (∑ k : Fin 512, x (ix2 p k) * dense w a o k) + (w (ix2 o 0) + b (ix1 o)) := by
  pointwise [k0_pay1, dense]

variable (m : (ℓ : Loc nD τ sig) → Buf (Elt Ideal) ℓ)

/-- Block numbers at each grid step: the rows of the input and of the result advance, the other arguments stay. -/
theorem idx : ∀ t : Fin cfg0.N, win0_0.index t = ![t.val, 0] ∧ win0_1.index t = ![0, 0] ∧ win0_2.index t = ![0]
    ∧ win0_3.index t = ![0, 0] ∧ win0_4.index t = ![t.val, 0] :=
  (by decide +kernel : ∀ t : Fin grid0.N, _)

/-- After the last grid step the result array is `layer` of the argument arrays. -/
theorem final (c : Dev nD) : (dats m 0 c).arrAt 4 (cfgs 0).N
    = layer (m ((c.tc : Thread nD τ).loc main_arg0)) (m ((c.tc : Thread nD τ).loc main_arg1)) (m ((c.tc : Thread nD τ).loc main_arg2))
      (m ((c.tc : Thread nD τ).loc main_arg3)) := by
  refine (dats m 0 c).arrAt_eq_of_covers 4 _ (by decide +kernel) fun t _ y => ?_
  blk_simp
  rw [after0_4]; frame_out
  rw [eq_ix2 y]
  refine (pay_apply _ _ _ _ (y 0) (y 1)).trans ?_
  unfold layer dense
  blk_point [iblk, V, idx t]

end Cert.KernelIdeal.Layer

end
-- ==== Proof.Reference.lean ====
/- What the reference's result is, element by element, where every index word names a feature. -/
module

public import proofs.«01_k».proof.Proof.Gen.ReferenceIdeal.Run
public import Idealize.ShloMosaic.Lib.Pointwise
public import Idealize.ShloMosaic.Lib.ReduceAll
public import Idealize.ShloMosaic.Lib.WordArith

@[expose] public section

set_option maxRecDepth 16384

noncomputable section

open Idealize.ShloMosaic Idealize.ShloMosaic.TcCoe Idealize.SL.Sem

namespace Cert.ReferenceIdeal.Layer

open Cert.ReferenceIdeal Cert.ReferenceIdeal.Gen

/-- The positions the take reads, as a column: negative words wrapped once by the number of features. -/
def places (I : IVec S128x4 32) : IVec S512x1 32 :=
  broadcastInDim S512x1 ![0] bcast_S512_S512x1_0
    (select (cmpi .slt (shapeCast S512 I shapeCasts_S128x4_S512) (broadcastInDim S512 ![] bcast_S_S512 (constantI S_ 32 0#32)))
      (addi (shapeCast S512 I shapeCasts_S128x4_S512) (broadcastInDim S512 ![] bcast_S_S512 (constantI S_ 32 512#32)))
      (shapeCast S512 I shapeCasts_S128x4_S512))

/-- For each position, whether it is a feature's number. -/
def inRange (P : IVec S512x1 32) : IVec S512 1 :=
  Host.reduce IntOp.andi
    (andi (cmpi .sge P (broadcastInDim S512x1 ![] bcast_S_S512x1 (constantI S_ 32 0#32)))
      (cmpi .sle P (broadcastInDim S512x1 ![0, 1] bcast_S1x1_S512x1_0_1 (broadcastInDim S1x1 ![1] bcast_S1_S1x1_1 (constantI S1 32 511#32)))))
    (constantI S_ 1 1#1) reducesTo_S512x1_S512_d1 h_S_

/-- The columns of `X` that the index words name, side by side; a fixed value where a position is out of range. -/
def taken (X : FVec Ideal S16384x512 .f32) (I : IVec S128x4 32) : FVec Ideal S16384x512 .f32 :=
  select (broadcastInDim S16384x512 ![1] bcast_S512_S16384x512_1 (inRange (places I)))
    (Host.gather gather_S16384x512_S512x1_S16384x512_0_1_n_n_1_1_163841 X (places I))
    (broadcastInDim S16384x512 ![] bcast_S_S16384x512 (constant S_ .f32 0x7FC00000#32))

/-- The powers of the taken columns by the exponents. -/
def powers (G : FVec Ideal S16384x512 .f32) (M : IVec S5x4 32) : FVec Ideal S16384x128x5x4 .f32 :=
  Host.powf
    (broadcastInDim S16384x128x5x4 ![0, 1, 2, 3] bcast_S16384x128x1x4_S16384x128x5x4_0_1_2_3
      (broadcastInDim S16384x128x1x4 ![0, 1, 3] bcast_S16384x128x4_S16384x128x1x4_0_1_3
        (shapeCast S16384x128x4 G shapeCasts_S16384x512_S16384x128x4)))
    (broadcastInDim S16384x128x5x4 ![0, 1, 2, 3] bcast_S1x1x5x4_S16384x128x5x4_0_1_2_3
      (sitofp .f32 (broadcastInDim S1x1x5x4 ![2, 3] bcast_S5x4_S1x1x5x4_2_3 M)))

/-- The power at row `p`, output `o`, term `k` and feature `j`: the taken column `4 o + j` to the exponent of `(k, j)`. -/
theorem powers_apply (G : FVec Ideal S16384x512 .f32) (M : IVec S5x4 32) (p : Fin 16384) (o : Fin 128) (k : Fin 5) (j : Fin 4) :
    powers G M (ix4 p o k j) = Ideal.pow (G (ix2 p ⟨o.val * 4 + j.val, by omega⟩)) (FloatOps.sitofp (F := Ideal) .f32 (M (ix2 k j))) := by
  pointwise [powers]

/-- An index word in range is its own position: the wrap of negative words leaves it alone. -/
theorem places_apply (I : IVec S128x4 32) (o : Fin 128) (j : Fin 4) (h : (I (ix2 o j)).toNat < 512) :
   places I (ix2 ⟨o.val * 4 + j.val, by omega⟩ 0) = I (ix2 o j) := by
  pointwise [places]
  have hs : IntOp.cmpi .slt (I (ix2 o j)) 0#32 = 0#1 := by
    show BitVec.ofBool (BitVec.slt _ _) = 0#1
    rw [BitVec.slt_eq_decide, BitVec.toInt_eq_toNat_of_lt (by omega), decide_eq_false (by simp)]
    rfl
  rw [hs]
  rfl

/-- The take along the second axis, read at row `p` and position `q`: row `p` of the column that the position names. -/
theorem gather_apply (X : FVec Ideal S16384x512 .f32) (P : IVec S512x1 32) (p : Fin 16384) (q : Fin 512) (n : Fin 512)
    (h : P (ix2 q 0) = BitVec.ofNat 32 n.val) :
    Host.gather gather_S16384x512_S512x1_S16384x512_0_1_n_n_1_1_163841 X P (ix2 p q) = X (ix2 p n) := by
  unfold Host.gather
  congr 1
  funext a
  refine Fin.ext ?_
  have hb : ∀ a, a ∉ (gather_S16384x512_S512x1_S16384x512_0_1_n_n_1_1_163841 : GatherDims _ _ _).operandBatchingDims := fun _ => List.not_mem_nil
  match a with
  | ⟨0, _⟩ =>
    have hm : (0 : Fin 2) ∉ (gather_S16384x512_S512x1_S16384x512_0_1_n_n_1_1_163841 : GatherDims _ _ _).startIndexMap := by
      show (0 : Fin 2) ∉ [(1 : Fin 2)]; decide
    show GatherDims.start _ _ P 0 + GatherDims.batchCoord _ _ 0 + GatherDims.offCoord _ _ 0 = p.val
    rw [GatherDims.batchCoord_eq_zero _ _ _ (hb _), GatherDims.start, dif_neg hm]
    have hk : (0 : Fin 2) ∈ (gather_S16384x512_S512x1_S16384x512_0_1_n_n_1_1_163841 : GatherDims _ _ _).sKept := by
      rw [GatherDims.mem_sKept]; exact ⟨fun h => absurd (List.mem_singleton.1 h) (by decide), List.not_mem_nil⟩
    rw [GatherDims.offCoord, dif_pos hk, Nat.add_zero, Nat.zero_add]
    exact congrArg (fun b => (ix2 p q b).val) (List.mem_singleton.1 (List.getElem_mem _))
  | ⟨1, _⟩ =>
    have hm : (1 : Fin 2) ∈ (gather_S16384x512_S512x1_S16384x512_0_1_n_n_1_1_163841 : GatherDims _ _ _).startIndexMap := by
      show (1 : Fin 2) ∈ [(1 : Fin 2)]; decide
    have hk : (1 : Fin 2) ∉ (gather_S16384x512_S512x1_S16384x512_0_1_n_n_1_1_163841 : GatherDims _ _ _).sKept := by
      rw [GatherDims.mem_sKept]; exact fun h => h.1 (List.mem_singleton.mpr rfl)
    show GatherDims.start _ _ P 1 + GatherDims.batchCoord _ _ 1 + GatherDims.offCoord _ _ 1 = n.val
    rw [GatherDims.batchCoord_eq_zero _ _ _ (hb _), GatherDims.offCoord_eq_zero _ _ _ hk, GatherDims.start, dif_pos hm]
    have hs : ∀ e, (gather_S16384x512_S512x1_S16384x512_0_1_n_n_1_1_163841 : GatherDims _ _ _).siIdx (ix2 p q) e = ix2 q 0 := by
      intro e
      funext b
      refine Fin.ext ?_
      match b with
      | ⟨0, _⟩ => rfl
      | ⟨1, _⟩ => exact Nat.lt_one_iff.1 (GatherDims.siIdx _ _ e ⟨1, _⟩).isLt
    rw [hs, h]
    show min (BitVec.ofNat 32 n.val).toInt.toNat (512 - 1) + 0 + 0 = n.val
    rw [BitVec.toInt_eq_toNat_of_lt (by simp; omega)]
    simp
    omega

/-- A position that is a feature's number passes the range test. -/
theorem inRange_apply (P : IVec S512x1 32) (q : Fin 512) (h : (P (ix2 q 0)).toNat < 512) : inRange P (ix1 q) = 1#1 := by
  unfold inRange
  pointwise
  have hge : IntOp.cmpi .sge (P (ix2 q 0)) 0#32 = 1#1 := by
    show BitVec.ofBool (BitVec.sle 0#32 (P (ix2 q 0))) = 1#1
    rw [BitVec.sle_eq_decide, BitVec.toInt_eq_toNat_of_lt (x := P (ix2 q 0)) (by omega), decide_eq_true (by simp)]
    rfl
  have hle : IntOp.cmpi .sle (P (ix2 q 0)) 511#32 = 1#1 := by
    show BitVec.ofBool (BitVec.sle (P (ix2 q 0)) 511#32) = 1#1
    rw [BitVec.sle_eq_decide, BitVec.toInt_eq_toNat_of_lt (x := P (ix2 q 0)) (by omega),
      decide_eq_true (by show ((P (ix2 q 0)).toNat : ℤ) ≤ 511; omega)]
    rfl
  rw [Finset.univ_unique, Finset.fold_singleton]
  show IntOp.andi (IntOp.andi (IntOp.cmpi .sge (P (ix2 q 0)) 0#32) (IntOp.cmpi .sle (P (ix2 q 0)) 511#32)) 1#1 = 1#1
  rw [hge, hle]
  rfl

/-- With every index word in range, column `4 o + j` of the taken columns is the column of `X` that word `(o, j)` names. -/
theorem taken_apply (X : FVec Ideal S16384x512 .f32) (I : IVec S128x4 32) (p : Fin 16384) (o : Fin 128) (j : Fin 4)
    (h : (I (ix2 o j)).toNat < 512) :
    taken X I (ix2 p ⟨o.val * 4 + j.val, by omega⟩) = X (ix2 p ⟨(I (ix2 o j)).toNat, h⟩) := by
  have hp := places_apply I o j h
  pointwise [taken]
  rw [inRange_apply _ _ (by rw [hp]; exact h), gather_apply X _ p _ ⟨(I (ix2 o j)).toNat, h⟩ (by rw [hp]; simp)]
  rfl

/-- The reference's result from the powers: the product over the four features, then the weighted sum over the five terms. -/
def output (Q : FVec Ideal S16384x128x5x4 .f32) (W : FVec Ideal S128x5 .f32) (B : FVec Ideal S128 .f32) : FVec Ideal S16384x128 .f32 :=
  addf
    (Host.reduceAdd
      (mulf
        (mulf
          (mulf
            (mulf
              (shapeCast S16384x128x5 (extractStridedSlice S16384x128x5x1 ![0, 0, 0, 0] Q slices_S16384x128x5x4_S16384x128x5x1_0_0_0_0) shapeCasts_S16384x128x5x1_S16384x128x5)
              (shapeCast S16384x128x5 (extractStridedSlice S16384x128x5x1 ![0, 0, 0, 1] Q slices_S16384x128x5x4_S16384x128x5x1_0_0_0_1) shapeCasts_S16384x128x5x1_S16384x128x5))
            (shapeCast S16384x128x5 (extractStridedSlice S16384x128x5x1 ![0, 0, 0, 2] Q slices_S16384x128x5x4_S16384x128x5x1_0_0_0_2) shapeCasts_S16384x128x5x1_S16384x128x5))
          (shapeCast S16384x128x5 (extractStridedSlice S16384x128x5x1 ![0, 0, 0, 3] Q slices_S16384x128x5x4_S16384x128x5x1_0_0_0_3) shapeCasts_S16384x128x5x1_S16384x128x5))
        (broadcastInDim S16384x128x5 ![0, 1, 2] bcast_S1x128x5_S16384x128x5_0_1_2 (broadcastInDim S1x128x5 ![1, 2] bcast_S128x5_S1x128x5_1_2 W)))
      (constant S_ .f32 0x00000000#32) reducesTo_S16384x128x5_S16384x128_d2 h_S_)
    (broadcastInDim S16384x128 ![0, 1] bcast_S1x128_S16384x128_0_1 (broadcastInDim S1x128 ![1] bcast_S128_S1x128_1 B))

/-- The reference's result is these pieces, one applied to the other. -/
theorem res_eq (m : (ℓ : Loc nD τ sig) → Buf (Elt Ideal) ℓ) (c : Dev nD) :
    Value.res_out0 m c = output (powers (taken (m ((c.tc : Thread nD τ).loc main_arg0)) (m ((c.tc : Thread nD τ).loc main_arg3))) (m ((c.tc : Thread nD τ).loc main_arg4)))
      (m ((c.tc : Thread nD τ).loc main_arg1)) (m ((c.tc : Thread nD τ).loc main_arg2)) := rfl

/-- The reference's result at row `p` and output `o`, from the powers. -/
theorem output_apply (Q : FVec Ideal S16384x128x5x4 .f32) (W : FVec Ideal S128x5 .f32) (B : FVec Ideal S128 .f32)
    (p : Fin 16384) (o : Fin 128) :
    output Q W B (ix2 p o) = (∑ k : Fin 5, Q (ix4 p o k 0) * Q (ix4 p o k 1) * Q (ix4 p o k 2) * Q (ix4 p o k 3) * W (ix2 o k)) + B (ix1 o) := by
  pointwise [output]

end Cert.ReferenceIdeal.Layer

end
-- ==== Proof.Precondition.lean ====
/- What the precondition says of the arguments, element by element. -/
module

public import proofs.«01_k».proof.Proof.Gen.Pre_setup_like
public import Idealize.ShloMosaic.Lib.Pointwise
public import Idealize.ShloMosaic.Lib.ReduceAll
public import Idealize.ShloMosaic.Lib.WordArith
public import Idealize.ShloMosaic.Lib.StableHlo.Predicate

@[expose] public section

set_option maxRecDepth 16384

noncomputable section

open Idealize.ShloMosaic

namespace Cert.Pre_setup_like.Layer

open Cert.Pre_setup_like Cert.Pre_setup_like.Gen

/-- The result of a `jnp.all` has one index. -/
instance scalarIdx : Subsingleton S_.Idx := ⟨fun _ _ => funext fun a => a.elim0⟩

/-- An extended real whose absolute value is below the f32 word of infinity is not infinite. -/
theorem finite_of_abs_lt (x : EReal)
    (h : FloatOps.cmpf (F := Ideal) (φ := .f32) .olt (max x (-x) : EReal) (Ideal.ofBits .f32 0x7F800000#32) = 1#1) :
    x ≠ ⊤ ∧ x ≠ ⊥ := by
  have htop : Ideal.ofBits .f32 0x7F800000#32 = ⊤ := by simp [Ideal.ofBits, Ideal.ieee]
  rw [htop] at h
  constructor <;> rintro rfl <;> revert h <;> show Ideal.cmp .olt _ _ = 1#1 → False <;> simp [Ideal.cmp]

/-- A word that is at least 0 and below 512 as a signed number is below 512 as an unsigned one. -/
theorem lt_of_range (v : BitVec 32) (h : IntOp.andi (IntOp.cmpi .sge v 0#32) (IntOp.cmpi .slt v 512#32) = 1#1) : v.toNat < 512 := by
  obtain ⟨h0, h1⟩ := IntOp.andi_eq_one.1 h
  have e0 : BitVec.sle 0#32 v = true := by
    revert h0; show BitVec.ofBool (BitVec.sle 0#32 v) = 1#1 → _; cases BitVec.sle 0#32 v <;> decide
  have e1 : BitVec.slt v 512#32 = true := by
    revert h1; show BitVec.ofBool (BitVec.slt v 512#32) = 1#1 → _; cases BitVec.slt v 512#32 <;> decide
  exact WordArith.toNat_lt_of_zero_sle_of_slt_ofNat v 512 (by decide) e0 e1

/-- The exponent of feature `j` in term `k`: 1 in the term after the constant one that carries `j`'s number, else 0. -/
def exponent (k : Fin 5) (j : Fin 4) : BitVec 32 :=
  BitVec.setWidth 32 (IntOp.cmpi .eq (BitVec.ofNat 32 k.val) (IntOp.addi (BitVec.ofNat 32 j.val) 1#32))

/-- What the precondition gives. -/
theorem decode (X : FVec Ideal S16384x512 .f32) (W : FVec Ideal S128x5 .f32) (B : FVec Ideal S128 .f32) (I : IVec S128x4 32)
    (M : IVec S5x4 32) (h : fn (F := Ideal) X W B I M = fun _ => 1#1) :
    (∀ p k, (X (ix2 p k) : EReal) ≠ ⊤ ∧ (X (ix2 p k) : EReal) ≠ ⊥)
    ∧ (∀ (o : Fin 128) (j : Fin 4), (W (ix2 o ⟨1 + j.val, by omega⟩) : EReal) ≠ ⊤ ∧ (W (ix2 o ⟨1 + j.val, by omega⟩) : EReal) ≠ ⊥)
    ∧ (∀ (o : Fin 128) (j : Fin 4), (I (ix2 o j)).toNat < 512)
    ∧ ∀ (k : Fin 5) (j : Fin 4), M (ix2 k j) = exponent k j := by
  have h' := congrFun h ix0
  unfold fn fn_part1 at h'
  obtain ⟨h3, hM⟩ := IntOp.andi_eq_one.1 h'
  obtain ⟨h2, hI⟩ := IntOp.andi_eq_one.1 h3
  obtain ⟨hX, hW⟩ := IntOp.andi_eq_one.1 h2
  refine ⟨fun p k => ?_, fun o j => ?_, fun o j => ?_, fun k j => ?_⟩
  · have e := Host.reduce_andi_all _ _ _ _ _ hX (ix2 p k)
    pointwise at e
    exact finite_of_abs_lt _ e
  · have e := Host.reduce_andi_all _ _ _ _ _ hW (ix2 o j)
    pointwise at e
    exact finite_of_abs_lt _ e
  · have e := Host.reduce_andi_all _ _ _ _ _ hI (ix2 o j)
    pointwise at e
    exact lt_of_range _ e
  · have e := Host.reduce_andi_all _ _ _ _ _ hM (ix2 k j)
    pointwise at e
    exact StableHlo.Predicate.cmpi_eq_iff.1 e

end Cert.Pre_setup_like.Layer

end
-- ==== Proof.Equation.lean ====
/- The kernel's array and the reference's array are equal where the precondition holds. -/
module

public import proofs.«01_k».proof.Proof.Algebra
public import proofs.«01_k».proof.Proof.Block
public import proofs.«01_k».proof.Proof.Reference
public import proofs.«01_k».proof.Proof.Precondition

@[expose] public section

set_option maxRecDepth 16384

noncomputable section

open Idealize.ShloMosaic

namespace Cert.Layer

open Cert.KernelIdeal (S16384x512 S128x5 S128 S128x4 S5x4 S16384x128)
open Cert.Pre_setup_like.Layer (exponent)

/-- The exponent as a number: 1 where the term is the feature's own, else 0. -/
theorem exponent_toInt (k : Fin 5) (j : Fin 4) : (exponent k j).toInt = if k.val = j.val + 1 then 1 else 0 := by
  revert k j; decide

/-- A real number to the power of the exponent is the number itself in the feature's own term, and 1 in the others. -/
theorem pow_exponent (x : EReal) (hx : x ≠ ⊤ ∧ x ≠ ⊥) (k : Fin 5) (j : Fin 4) :
    Ideal.pow x (FloatOps.sitofp (F := Ideal) .f32 (exponent k j)) = if k.val = j.val + 1 then x else 1 := by
  lift x to ℝ using hx
  show Ideal.pow (x : EReal) (((exponent k j).toInt : ℝ) : EReal) = _
  rw [exponent_toInt, Ideal.pow_coe_coe]
  split
  · show ((x ^ (((1 : ℤ) : ℝ)) : ℝ) : EReal) = _
    simp
  · show ((x ^ (((0 : ℤ) : ℝ)) : ℝ) : EReal) = _
    simp

/-- The comparison of an index word with a feature's number, as a number. -/
theorem hit_eq (v : BitVec 32) (n k : Fin 512) (h : v.toNat = n.val) :
    FloatOps.sitofp (F := Ideal) .f32 (BitVec.setWidth 32 (IntOp.cmpi .eq v (BitVec.ofNat 32 k.val))) = if n = k then (1 : EReal) else 0 := by
  have hv : (v = BitVec.ofNat 32 k.val) ↔ n = k := by
    rw [← BitVec.toNat_inj, h, BitVec.toNat_ofNat, Nat.mod_eq_of_lt (by omega), Fin.ext_iff]
  show (((BitVec.setWidth 32 (BitVec.ofBool (v == BitVec.ofNat 32 k.val))).toInt : ℝ) : EReal) = _
  by_cases hk : n = k
  · rw [if_pos hk, beq_iff_eq.2 (hv.2 hk)]; simp
  · rw [if_neg hk, beq_eq_false_iff_ne.2 (fun e => hk (hv.1 e))]; simp

/-- The reference's five terms at one element: the constant term carries the weight alone, each other term one feature. -/
theorem five_terms (x : Fin 4 → EReal) (hx : ∀ j, x j ≠ ⊤ ∧ x j ≠ ⊥) (w : Fin 5 → EReal) :
    (∑ k : Fin 5, Ideal.pow (x 0) (FloatOps.sitofp (F := Ideal) .f32 (exponent k 0)) * Ideal.pow (x 1) (FloatOps.sitofp (F := Ideal) .f32 (exponent k 1))
      * Ideal.pow (x 2) (FloatOps.sitofp (F := Ideal) .f32 (exponent k 2)) * Ideal.pow (x 3) (FloatOps.sitofp (F := Ideal) .f32 (exponent k 3)) * w k)
    = w 0 + ∑ j : Fin 4, x j * w ⟨1 + j.val, by omega⟩ := by
  simp only [fun k j => pow_exponent (x j) (hx j) k j, Fin.sum_univ_succ]
  simp

/-- The two programs compute one array. -/
theorem arrays_eq [Cert.Pre_setup_like.Facts] (X : FVec Ideal S16384x512 .f32) (W : FVec Ideal S128x5 .f32) (B : FVec Ideal S128 .f32) (I : IVec S128x4 32)
    (M : IVec S5x4 32) (h : Cert.Pre_setup_like.fn (F := Ideal) X W B I M = fun _ => 1#1) :
    Cert.ReferenceIdeal.Layer.output (Cert.ReferenceIdeal.Layer.powers (Cert.ReferenceIdeal.Layer.taken X I) M) W B
      = Cert.KernelIdeal.Layer.layer X W B I := by
  obtain ⟨hX, hW, hI, hM⟩ := Cert.Pre_setup_like.Layer.decode X W B I M h
  funext i
  obtain ⟨p, o, rfl⟩ : ∃ (p : Fin 16384) (o : Fin 128), i = ix2 p o := ⟨i 0, i 1, eq_ix2 i⟩
  have href := Cert.ReferenceIdeal.Layer.output_apply (Cert.ReferenceIdeal.Layer.powers (Cert.ReferenceIdeal.Layer.taken X I) M) W B p o
  refine href.trans ?_
  simp only [Cert.ReferenceIdeal.Layer.powers_apply, Cert.ReferenceIdeal.Layer.taken_apply _ _ _ _ _ (hI o _), hM]
  rw [five_terms (fun j => X (ix2 p ⟨(I (ix2 o j)).toNat, hI o j⟩)) (fun j => hX p _) (fun k => W (ix2 o k))]
  show _ = (∑ k : Fin 512, X (ix2 p k) * Cert.KernelIdeal.Layer.dense W I o k) + (W (ix2 o 0) + B (ix1 o))
  unfold Cert.KernelIdeal.Layer.dense
  simp only [fun j k => hit_eq (I (ix2 o j)) ⟨(I (ix2 o j)).toNat, hI o j⟩ k rfl]
  rw [dense_sum (fun k => X (ix2 p k)) (fun j => W (ix2 o ⟨1 + j.val, by omega⟩)) (fun j => ⟨(I (ix2 o j)).toNat, hI o j⟩) (fun k => hX p k) (fun j => hW o j)]
  exact (congrArg (· + (B (ix1 o) : EReal)) (add_comm _ _)).trans (add_assoc _ _ _)

end Cert.Layer

end
-- ==== Proof.lean ====
module

public import proofs.«01_k».proof.Proof.Equation
public import proofs.«01_k».proof.Proof.Gen.ReferenceIdeal.Run
public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Pre_setup_like
public import Idealize.ShloMosaic.Adequacy
public import Idealize.ShloMosaic.Init
public import Idealize.ShloMosaic.Lib.Claim

@[expose] public section

set_option maxRecDepth 16384

noncomputable section

namespace Cert.Proof

open Idealize.ShloMosaic Idealize.SL.Sem Cert.Kernel

/-- The kernel ends without a fault, with its arguments unchanged and every semaphore counter at zero. -/
theorem frame_kernel : Cert.quiescent_Kernel := fun m g _ => Cert.Kernel.Gen.frame m g

/-- The same of the kernel read over the extended reals. -/
theorem frame_kernelIdeal : Cert.quiescent_KernelIdeal := fun m g _ => Cert.KernelIdeal.Gen.frame m g

/-- The same of the reference read over the extended reals; it declares no semaphore. -/
theorem frame_reference : Cert.quiescent_ReferenceIdeal := by
  intro m g _
  exact (θ_run Cert.ReferenceIdeal.defs _ _).mono
    (fun r h => ⟨fun c => (h c).2, sem_eq_zero_of_no_sems (by decide) r.2⟩)
    (Cert.ReferenceIdeal.Value.run m g)

/-- Over the extended reals, from arguments that meet the precondition, the kernel's result is the reference's. -/
theorem algebraic : Cert.algebraic_KernelIdeal_ReferenceIdeal_pre_setup_like := by
  pair_intro
  · run_from Cert.KernelIdeal.Gen.run_main m g
  · refine (θ_run Cert.ReferenceIdeal.defs _ _).mono (fun r h c => ⟨(h c).1.trans ?_, (h c).2⟩) (Cert.ReferenceIdeal.Value.run m' g')
    obtain ⟨a0, a1, a2, a3, a4⟩ := hagree c
    refine (Cert.ReferenceIdeal.Layer.res_eq m' c).trans (Eq.trans ?_ (Cert.KernelIdeal.Layer.final m c).symm)
    rw [a0, a1, a2, a3, a4]
    exact Cert.Layer.arrays_eq _ _ _ _ _ (hpre c)

/-- Every claim of this directory. -/
theorem claim : Cert.Claim := ⟨Cert.Kernel.Gen.facts, Cert.KernelIdeal.Gen.facts, Cert.ReferenceIdeal.Gen.facts, Cert.Pre_setup_like.Gen.facts,
  frame_kernel, frame_kernelIdeal, fun m g _ => Cert.KernelIdeal.Gen.frame m g, frame_reference, fun m g _ => frame_reference m g trivial,
  trivial, algebraic⟩

end Cert.Proof

end
